-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x2048 : Shape := ⟨3, ![2, 8192, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S16384x2048 : Shape := ⟨2, ![16384, 2048]⟩
abbrev S2048x8192 : Shape := ⟨2, ![2048, 8192]⟩
abbrev S8192x2048 : Shape := ⟨2, ![8192, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S16384x2048, .f32⟩
  | .hbm, ⟨6, _⟩ => ⟨S2048, .f32⟩
  | .hbm, ⟨7, _⟩ => ⟨S1x2048, .f32⟩
  | .hbm, ⟨8, _⟩ => ⟨S2048x8192, .f32⟩
  | .hbm, ⟨9, _⟩ => ⟨S2048x8192, .bf16⟩
  | .hbm, ⟨10, _⟩ => ⟨S8192x2048, .f32⟩
  | .hbm, ⟨11, _⟩ => ⟨S8192x2048, .bf16⟩
  | .hbm, ⟨12, _⟩ => ⟨S1x2048, .f32⟩
  | .hbm, ⟨13, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S2x8192x2048 : Shape := ⟨3, ![2, 8192, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x8192 : Shape := ⟨2, ![2048, 8192]⟩
abbrev S2x8192x8192 : Shape := ⟨3, ![2, 8192, 8192]⟩
abbrev S8192x2048 : Shape := ⟨2, ![8192, 2048]⟩
abbrev S16384x2048 : Shape := ⟨2, ![16384, 2048]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S2048, .f32⟩
  | .hbm, ⟨6, _⟩ => ⟨S2x8192x2048, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x2048, .f32⟩
  | .hbm, ⟨18, _⟩ => ⟨S2x8192x2048, .f32⟩
  | .hbm, ⟨19, _⟩ => ⟨S1x1x2048, .f32⟩
  | .hbm, ⟨20, _⟩ => ⟨S2x8192x2048, .f32⟩
  | .hbm, ⟨21, _⟩ => ⟨S2x8192x2048, .f32⟩
  | .hbm, ⟨22, _⟩ => ⟨S2048x8192, .f32⟩
  | .hbm, ⟨23, _⟩ => ⟨S2x8192x8192, .f32⟩
  | .hbm, ⟨24, _⟩ => ⟨S_, .f32⟩
  | .hbm, ⟨25, _⟩ => ⟨S2x8192x8192, .f32⟩
  | .hbm, ⟨26, _⟩ => ⟨S2x8192x8192, .f32⟩
  | .hbm, ⟨27, _⟩ => ⟨S2x8192x8192, .f32⟩
  | .hbm, ⟨28, _⟩ => ⟨S8192x2048, .f32⟩
  | .hbm, ⟨29, _⟩ => ⟨S2x8192x2048, .f32⟩
  | .hbm, ⟨30, _⟩ => ⟨S2x8192x2048, .f32⟩
  | .hbm, ⟨31, _⟩ => ⟨S2x8192x2048, .f32⟩
  | .hbm, ⟨32, _⟩ => ⟨S_, .f32⟩
  | .hbm, ⟨33, _⟩ => ⟨S2x8192, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S2x8192x1, .f32⟩
  | .hbm, ⟨42, _⟩ => ⟨S2x8192x2048, .f32⟩
  | .hbm, ⟨43, _⟩ => ⟨S2x8192x2048, .f32⟩
  | .hbm, ⟨44, _⟩ => ⟨S1x1x2048, .f32⟩
  | .hbm, ⟨45, _⟩ => ⟨S2x8192x2048, .f32⟩
  | .hbm, ⟨46, _⟩ => ⟨S2x8192x2048, .f32⟩
  | .hbm, ⟨47, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Proof.Layer.lean ====
/- The layer's row-wise mathematics over the extended reals: the scaled root-mean-square norm of a row and the contribution of
   a range of hidden units to the squared-relu MLP. Both programs are read down to these functions. -/
module

public import Idealize.ShloMosaic.Lib.Pipeline.ValueKit

@[expose] public section

noncomputable section

namespace Cert.Layer

open Idealize.ShloMosaic

/-- A row divided by its root mean square (the mean over 2048 entries, plus the layer's epsilon), times the gain `g`. -/
def rms (x g : Fin 2048 → EReal) (d : Fin 2048) : EReal :=
  x d * Ideal.rsqrt (Ideal.div (∑ e, x e * x e) (Ideal.ofBits .f32 0x45000000#32) + Ideal.ofBits .f32 0x358637BD#32) * g d

/-- One hidden unit of the MLP on the row `y`: the square of the relu of its pre-activation, times its output weight `v`. -/
def unit (y w : Fin 2048 → EReal) (v : EReal) : EReal :=
  max (∑ e, y e * w e) 0 * max (∑ e, y e * w e) 0 * v

/-- A function on the hidden units read at a natural number: zero past the last unit. -/
def ext (f : Fin 8192 → EReal) (n : ℕ) : EReal := if h : n < 8192 then f ⟨n, h⟩ else 0

theorem ext_of_lt (f : Fin 8192 → EReal) (n : ℕ) (h : n < 8192) : ext f n = f ⟨n, h⟩ := dif_pos h

/-- The sum of `f` over the first `j` tiles of 2048 hidden units. -/
def tiles (f : Fin 8192 → EReal) (j : ℕ) : EReal := ∑ s ∈ Finset.range j, ∑ k : Fin 2048, ext f (2048 * s + k.val)

theorem tiles_succ (f : Fin 8192 → EReal) (j : ℕ) : tiles f (j + 1) = tiles f j + ∑ k : Fin 2048, ext f (2048 * j + k.val) :=
  Finset.sum_range_succ _ _

/-- The four tiles are all the hidden units. -/
theorem tiles_four (f : Fin 8192 → EReal) : tiles f 4 = ∑ n, f n := by
  have e : ∀ n : Fin 8192, f n = ext f n.val := fun n => (ext_of_lt f n.val n.isLt).symm
  unfold tiles
  simp only [e]
  rw [Fin.sum_univ_eq_sum_range (fun n => ext f n) 8192, show 8192 = 4 * 2048 from rfl]
  rw [Finset.sum_range_mul_split]
  refine Finset.sum_congr rfl fun s _ => ?_
  rw [Nat.mul_comm s 2048]
  exact Fin.sum_univ_eq_sum_range (fun k => ext f (2048 * s + k)) 2048

end Cert.Layer

end
-- ==== Proof.Tile.lean ====
/- What one grid point of the kernel stores, as the body's payloads over the point's input blocks. -/
module

public import proofs.«01_k».proof.Proof.Gen.KernelIdeal.Value
public import Idealize.ShloMosaic.Lib.Pipeline.ValueKit
public import Idealize.ShloMosaic.Lib.Pipeline.ReadBack
public import proofs.«01_k».proof.Proof.Layer

@[expose] public section

set_option maxRecDepth 16384

noncomputable section

namespace Cert.KernelIdeal.Mlp

open Cert.KernelIdeal Cert.KernelIdeal.Gen Cert.Layer
open Idealize.ShloMosaic Idealize.ShloMosaic.TcCoe Idealize.SL.Sem

variable (m : (ℓ : Loc nD τ sig) → Buf (Elt Ideal) ℓ)

theorem outs_A (c : Dev nD) (t : Fin cfg0.N) (h0 : t.val % 4 = 0) (h1 : ¬(1 ≤ t.val % 4 ∧ t.val % 4 ≤ 2)) (h2 : ¬t.val % 4 = 3) :
    (outsAt0 m c t.val t.isLt)
      = (k0_pay2 (iblk m c 0 t) (k0_pay1 (iblk m c 0 t) (iblk m c 1 t)) (iblk m c 2 t) (iblk m c 3 t),
         k0_pay1 (iblk m c 0 t) (iblk m c 1 t)) := by
  rw [outsAt0_A m c t h0 h1 h2]
  frame_out

theorem outs_B (c : Dev nD) (t : Fin cfg0.N) (h0 : ¬t.val % 4 = 0) (h1 : 1 ≤ t.val % 4 ∧ t.val % 4 ≤ 2) (h2 : ¬t.val % 4 = 3) (P) (hP : outsAt0 m c (t.val - 1) (Nat.lt_of_le_of_lt (Nat.sub_le _ _) t.isLt) = P) :
    (outsAt0 m c t.val t.isLt)
      = (k0_pay3 P.1 P.2 (iblk m c 2 t) (iblk m c 3 t), P.2) := by
  rw [outsAt0_B m c t h0 h1 h2]
  frame_out
  rw [hP]
  simp only [read_unread_whole]
  rfl

theorem outs_C (c : Dev nD) (t : Fin cfg0.N) (h0 : ¬t.val % 4 = 0) (h1 : ¬(1 ≤ t.val % 4 ∧ t.val % 4 ≤ 2)) (h2 : t.val % 4 = 3) (P) (hP : outsAt0 m c (t.val - 1) (Nat.lt_of_le_of_lt (Nat.sub_le _ _) t.isLt) = P) :
    (outsAt0 m c t.val t.isLt)
      = (k0_pay4 P.1 P.2 (iblk m c 2 t) (iblk m c 3 t) (iblk m c 4 t), P.2) := by
  rw [outsAt0_C m c t h0 h1 h2]
  frame_out
  rw [hP]
  simp only [read_unread_whole]
  rfl

/-! ## The payloads at an index -/

section Payloads

variable (x : FVec Ideal S512x2048 .f32) (hn : FVec Ideal S512x2048 .bf16) (w1 w2 : FVec Ideal S2048x2048 .bf16)
  (g : FVec Ideal S1x2048 .f32) (r : Fin 512) (d : Fin 2048)

theorem pay1_apply : k0_pay1 (F := Ideal) x g (ix2 r d) = rms (fun e => x (ix2 r e)) (fun e => g (ix2 0 e)) d := by
  pointwise [k0_pay1, rms]

theorem pay2_apply : k0_pay2 (F := Ideal) x hn w1 w2 (ix2 r d)
    = x (ix2 r d) + ∑ k, unit (fun e => hn (ix2 r e)) (fun e => w1 (ix2 e k)) (w2 (ix2 k d)) := by
  pointwise [k0_pay2, unit]

theorem pay3_apply : k0_pay3 (F := Ideal) x hn w1 w2 (ix2 r d)
    = x (ix2 r d) + ∑ k, unit (fun e => hn (ix2 r e)) (fun e => w1 (ix2 e k)) (w2 (ix2 k d)) := by
  pointwise [k0_pay3, unit]

theorem pay4_apply : k0_pay4 (F := Ideal) x hn w1 w2 g (ix2 r d)
    = rms (fun e => x (ix2 r e) + ∑ k, unit (fun e' => hn (ix2 r e')) (fun e' => w1 (ix2 e' k)) (w2 (ix2 k e)))
        (fun e => g (ix2 0 e)) d := by
  pointwise [k0_pay4, unit, rms]

end Payloads

/-! ## The input blocks are places of the argument arrays -/

theorem idx : ∀ t : Fin cfg0.N, win0_0.index t = ![t.val / 4, 0] ∧ win0_1.index t = ![0, 0] ∧ win0_2.index t = ![0, t.val % 4]
    ∧ win0_3.index t = ![t.val % 4, 0] ∧ win0_4.index t = ![0, 0] ∧ t.val / 4 < 32 ∧ t.val % 4 < 4 :=
  (by decide +kernel : ∀ t : Fin grid0.N, _)

/-- Row `ρ` of the flattened residual stream. -/
def row (c : Dev nD) (ρ : ℕ) (hρ : ρ < 16384) (d : Fin 2048) : EReal :=
  m ((c : Thread nD τ).loc main_arg0) (ix3 (⟨ρ / 8192, by omega⟩ : Fin 2) (⟨ρ % 8192, by omega⟩ : Fin 8192) d)

theorem rowLt (t : Fin cfg0.N) (r : Fin 512) : 512 * (t.val / 4) + r.val < 16384 := by
  have := idx t; omega

theorem hidLt (t : Fin cfg0.N) (k : Fin 2048) : 2048 * (t.val % 4) + k.val < 8192 := by omega

theorem blk0 (c : Dev nD) (t : Fin cfg0.N) (r : Fin 512) (d : Fin 2048) :
    iblk m c 0 t (ix2 r d) = row m c (512 * (t.val / 4) + r.val) (rowLt t r) d := by
  have hi := idx t
  blk_simp [iblk, hi.1]
  entry_read
  pointwise [row]
  blk_ext [hi.1]

theorem blk1 (c : Dev nD) (t : Fin cfg0.N) (d : Fin 2048) :
    iblk m c 1 t (ix2 0 d) = m ((c : Thread nD τ).loc main_arg1) (ix2 0 d) := by
  have hi := idx t
  blk_simp [iblk, hi.2.1]
  entry_read
  pointwise
  blk_ext [hi.2.1]

theorem blk2 (c : Dev nD) (t : Fin cfg0.N) (e k : Fin 2048) :
    iblk m c 2 t (ix2 e k) = m ((c : Thread nD τ).loc main_arg2) (ix3 0 e ⟨2048 * (t.val % 4) + k.val, hidLt t k⟩) := by
  have hi := idx t
  blk_simp [iblk, hi.2.2.1]
  entry_read
  pointwise
  blk_ext [hi.2.2.1]

theorem blk3 (c : Dev nD) (t : Fin cfg0.N) (k d : Fin 2048) :
    iblk m c 3 t (ix2 k d) = m ((c : Thread nD τ).loc main_arg3) (ix3 0 ⟨2048 * (t.val % 4) + k.val, hidLt t k⟩ d) := by
  have hi := idx t
  blk_simp [iblk, hi.2.2.2.1]
  entry_read
  pointwise
  blk_ext [hi.2.2.2.1]

theorem blk4 (c : Dev nD) (t : Fin cfg0.N) (d : Fin 2048) :
    iblk m c 4 t (ix2 0 d) = m ((c : Thread nD τ).loc main_arg4) (ix1 d) := by
  have hi := idx t
  blk_simp [iblk, hi.2.2.2.2.1]
  entry_read
  pointwise
  blk_ext [hi.2.2.2.2.1]

end Cert.KernelIdeal.Mlp

end
-- ==== Proof.Sweep.lean ====
/- What the output block and the scratch of normalized rows hold after each grid point, by induction on the point, and from it
   the kernel's result array at an index. -/
module

public import proofs.«01_k».proof.Proof.Tile

@[expose] public section

set_option maxRecDepth 16384

noncomputable section

namespace Cert.KernelIdeal.Mlp

open Cert.KernelIdeal Cert.KernelIdeal.Gen Cert.Layer
open Idealize.ShloMosaic Idealize.ShloMosaic.TcCoe Idealize.SL.Sem

variable (m : (ℓ : Loc nD τ sig) → Buf (Elt Ideal) ℓ)

/-- The gain of the MLP's norm. -/
def gain1 (c : Dev nD) (e : Fin 2048) : EReal := m ((c : Thread nD τ).loc main_arg1) (ix2 0 e)
/-- The gain of the final norm. -/
def gain2 (c : Dev nD) (e : Fin 2048) : EReal := m ((c : Thread nD τ).loc main_arg4) (ix1 e)
/-- The MLP's first and second weights. -/
def up (c : Dev nD) (e : Fin 2048) (n : Fin 8192) : EReal := m ((c : Thread nD τ).loc main_arg2) (ix3 0 e n)
def down (c : Dev nD) (n : Fin 8192) (d : Fin 2048) : EReal := m ((c : Thread nD τ).loc main_arg3) (ix3 0 n d)

/-- What each hidden unit adds to column `d` of row `ρ`. -/
def hid (c : Dev nD) (ρ : ℕ) (hρ : ρ < 16384) (d : Fin 2048) (n : Fin 8192) : EReal :=
  unit (rms (row m c ρ hρ) (gain1 m c)) (fun e => up m c e n) (down m c n d)

/-- The sum over one tile of hidden units, as a grid point forms it from its weight blocks. -/
theorem tile_sum (c : Dev nD) (t : Fin cfg0.N) (ρ : ℕ) (hρ : ρ < 16384) (hn : Fin 2048 → EReal)
    (h : ∀ e, hn e = rms (row m c ρ hρ) (gain1 m c) e) (d : Fin 2048) :
    (∑ k, unit hn (fun e => (iblk m c 2 t (ix2 e k) : EReal)) (iblk m c 3 t (ix2 k d) : EReal))
      = ∑ k : Fin 2048, ext (hid m c ρ hρ d) (2048 * (t.val % 4) + k.val) := by
  refine Finset.sum_congr rfl fun k _ => ?_
  rw [ext_of_lt _ _ (hidLt t k), funext h]
  unfold hid up down
  rw [blk3]
  congr 1
  funext e
  rw [blk2]

/-- The state after point `t`: the scratch holds the normalized rows; the block holds the rows plus the tiles seen so far,
    and after the last tile the final norm of that sum. -/
def Inv (c : Dev nD) (t : Fin cfg0.N) (S : Vec Ideal S512x2048 .f32 × Vec Ideal S512x2048 .bf16) : Prop :=
  ∀ (r : Fin 512) (d : Fin 2048),
    S.2 (ix2 r d) = rms (row m c _ (rowLt t r)) (gain1 m c) d
    ∧ (t.val % 4 ≤ 2 → S.1 (ix2 r d) = row m c _ (rowLt t r) d + tiles (hid m c _ (rowLt t r) d) (t.val % 4 + 1))
    ∧ (t.val % 4 = 3 → S.1 (ix2 r d)
        = rms (fun e => row m c _ (rowLt t r) e + tiles (hid m c _ (rowLt t r) e) 4) (gain2 m c) d)

/-- The first point of a row block establishes the state. -/
theorem start (c : Dev nD) (t : Fin cfg0.N) (h0 : t.val % 4 = 0) :
    Inv m c t (k0_pay2 (iblk m c 0 t) (k0_pay1 (iblk m c 0 t) (iblk m c 1 t)) (iblk m c 2 t) (iblk m c 3 t),
       k0_pay1 (iblk m c 0 t) (iblk m c 1 t)) := by
  intro r d
  have hn : ∀ e, k0_pay1 (F := Ideal) (iblk m c 0 t) (iblk m c 1 t) (ix2 r e) = rms (row m c _ (rowLt t r)) (gain1 m c) e := by
    intro e
    refine (pay1_apply _ _ r e).trans ?_
    congr 1 <;> funext e'
    · exact blk0 m c t r e'
    · exact blk1 m c t e'
  refine ⟨hn d, fun _ => ?_, fun h => absurd h (by omega)⟩
  refine (pay2_apply _ _ _ _ r d).trans ?_
  rw [h0, tiles_succ]
  have e2 := tile_sum m c t _ (rowLt t r) _ hn d
  rw [h0] at e2
  refine congrArg₂ (· + ·) (blk0 m c t r d) (e2.trans ?_)
  simp [tiles]

/-- Two consecutive points of one row block speak of the same rows. -/
theorem rows (c : Dev nD) (n : ℕ) (hn : n + 1 < cfg0.N) (h0 : ¬(n + 1) % 4 = 0) (r : Fin 512) (d : Fin 2048) :
    row m c _ (rowLt ⟨n, Nat.lt_of_succ_lt hn⟩ r) = row m c _ (rowLt ⟨n + 1, hn⟩ r)
    ∧ hid m c _ (rowLt ⟨n, Nat.lt_of_succ_lt hn⟩ r) d = hid m c _ (rowLt ⟨n + 1, hn⟩ r) d
    ∧ (n + 1) % 4 = n % 4 + 1 := by
  have e : 512 * (n / 4) + r.val = 512 * ((n + 1) / 4) + r.val := by omega
  have g : ∀ a b (ha : a < 16384) (hb : b < 16384), a = b → row m c a ha = row m c b hb ∧ hid m c a ha d = hid m c b hb d := by
    rintro a _ ha hb rfl; exact ⟨rfl, rfl⟩
  exact ⟨(g _ _ _ _ e).1, (g _ _ _ _ e).2, by omega⟩

/-- A middle point of a row block adds its tile. -/
theorem step (c : Dev nD) (n : ℕ) (hn : n + 1 < cfg0.N) (h0 : ¬(n + 1) % 4 = 0) (h2 : ¬(n + 1) % 4 = 3)
    (P : Vec Ideal S512x2048 .f32 × Vec Ideal S512x2048 .bf16) (hp : Inv m c ⟨n, Nat.lt_of_succ_lt hn⟩ P) :
    Inv m c ⟨n + 1, hn⟩ (k0_pay3 P.1 P.2 (iblk m c 2 ⟨n + 1, hn⟩) (iblk m c 3 ⟨n + 1, hn⟩), P.2) := by
  intro r d
  have hs : ∀ e, P.2 (ix2 r e) = rms (row m c _ (rowLt ⟨n + 1, hn⟩ r)) (gain1 m c) e := fun e => by
    rw [← (rows m c n hn h0 r e).1]; exact (hp r e).1
  obtain ⟨hr, hh, hm⟩ := rows m c n hn h0 r d
  refine ⟨hs d, fun _ => ?_, fun h => absurd h h2⟩
  refine (pay3_apply _ _ _ _ r d).trans ?_
  have e1 := (hp r d).2.1 (by dsimp only; omega)
  have e2 := tile_sum m c ⟨n + 1, hn⟩ _ (rowLt ⟨n + 1, hn⟩ r) _ hs d
  refine (congrArg₂ (· + ·) e1 e2).trans ?_
  dsimp only at hr hh ⊢
  rw [hr, hh, tiles_succ _ ((n + 1) % 4), ← add_assoc, hm]

/-- The last point of a row block adds its tile and normalizes. -/
theorem last (c : Dev nD) (n : ℕ) (hn : n + 1 < cfg0.N) (h2 : (n + 1) % 4 = 3)
    (P : Vec Ideal S512x2048 .f32 × Vec Ideal S512x2048 .bf16) (hp : Inv m c ⟨n, Nat.lt_of_succ_lt hn⟩ P) :
    Inv m c ⟨n + 1, hn⟩ (k0_pay4 P.1 P.2 (iblk m c 2 ⟨n + 1, hn⟩) (iblk m c 3 ⟨n + 1, hn⟩) (iblk m c 4 ⟨n + 1, hn⟩), P.2) := by
  intro r d
  have h0 : ¬(n + 1) % 4 = 0 := by omega
  have hs : ∀ e, P.2 (ix2 r e) = rms (row m c _ (rowLt ⟨n + 1, hn⟩ r)) (gain1 m c) e := fun e => by
    rw [← (rows m c n hn h0 r e).1]; exact (hp r e).1
  refine ⟨hs d, fun h => absurd h (by dsimp only; omega), fun _ => ?_⟩
  refine (pay4_apply _ _ _ _ _ r d).trans ?_
  congr 1 <;> funext e
  · obtain ⟨hr, hh, hm⟩ := rows m c n hn h0 r e
    have e1 := (hp r e).2.1 (by dsimp only; omega)
    have e2 := tile_sum m c ⟨n + 1, hn⟩ _ (rowLt ⟨n + 1, hn⟩ r) _ hs e
    refine (congrArg₂ (· + ·) e1 e2).trans ?_
    dsimp only at hr hh ⊢
    have h3 : n % 4 + 1 = 3 := by omega
    rw [hr, hh, tiles_succ _ 3, ← add_assoc, h2, h3]
  · exact blk4 m c _ e

/-- The state holds after every point. -/
theorem inv (c : Dev nD) : ∀ (n : ℕ) (hn : n < cfg0.N), Inv m c ⟨n, hn⟩ (outsAt0 m c n hn) := by
  intro n
  induction n with
  | zero =>
    intro hn
    rw [outs_A m c ⟨0, hn⟩ rfl (by simp) (by simp)]
    exact start m c ⟨0, hn⟩ rfl
  | succ n ih =>
    intro hn
    by_cases h0 : (n + 1) % 4 = 0
    · rw [outs_A m c ⟨n + 1, hn⟩ h0 (by dsimp only; omega) (by dsimp only; omega)]
      exact start m c ⟨n + 1, hn⟩ h0
    · have hp := ih (Nat.lt_of_succ_lt hn)
      by_cases h2 : (n + 1) % 4 = 3
      · rw [outs_C m c ⟨n + 1, hn⟩ h0 (by dsimp only; omega) h2 _ rfl]
        exact last m c n hn h2 _ hp
      · rw [outs_B m c ⟨n + 1, hn⟩ h0 (by dsimp only; omega) h2 _ rfl]
        exact step m c n hn h0 h2 _ hp

/-- The kernel's result array at row `ρ`, column `d`. -/
theorem result_apply (c : Dev nD) (ρ : Fin 16384) (d : Fin 2048) :
    Value.G5 m c (ix2 ρ d) = rms (fun e => row m c ρ.val ρ.isLt e + ∑ n, hid m c ρ.val ρ.isLt e n) (gain2 m c) d := by
  have hN : cfg0.N = 128 := N_0
  have hρ := ρ.isLt
  have hd := d.isLt
  have hq : Value.pt5Of (ix2 ρ d) = 4 * (ρ.val / 512) + 3 := by
    show 4 * (1 * (ρ.val / 512 - 0) + 1 * (d.val / 2048 - 0)) + 3 = _
    omega
  have hb : Value.pt5Of (ix2 ρ d) < cfg0.N := by omega
  have hl : Value.loc5Of (ix2 ρ d) = ix2 (⟨ρ.val % 512, by omega⟩ : Fin 512) d := by
    funext a
    apply Fin.ext
    match a with
    | ⟨0, _⟩ => rfl
    | ⟨1, _⟩ => exact Nat.mod_eq_of_lt hd
  unfold Value.G5
  rw [dif_pos hb, ← Value.outsAt0_sweep m c _ hb, hl]
  have h := (inv m c _ hb ⟨ρ.val % 512, by omega⟩ d).2.2 (by dsimp only; omega)
  have e : 512 * (Value.pt5Of (ix2 ρ d) / 4) + ρ.val % 512 = ρ.val := by omega
  refine h.trans ?_
  simp only [e, tiles_four]

end Cert.KernelIdeal.Mlp

end
-- ==== Proof.Plain.lean ====
/- The reference's result at an index. -/
module

public import proofs.«01_k».proof.Proof.Gen.ReferenceIdeal.Run
public import proofs.«01_k».proof.Proof.Layer

@[expose] public section

set_option maxRecDepth 16384

noncomputable section

namespace Cert.ReferenceIdeal.Mlp

open Cert.ReferenceIdeal Cert.ReferenceIdeal.Gen Cert.Layer
open Idealize.ShloMosaic Idealize.ShloMosaic.TcCoe Idealize.SL.Sem

variable (m : (ℓ : Loc nD τ sig) → Buf (Elt Ideal) ℓ)

/-- Row `ρ` of the flattened residual stream. -/
def row (c : Dev nD) (ρ : ℕ) (hρ : ρ < 16384) (d : Fin 2048) : EReal :=
  m ((c : Thread nD τ).loc main_arg0) (ix3 (⟨ρ / 8192, by omega⟩ : Fin 2) (⟨ρ % 8192, by omega⟩ : Fin 8192) d)

/-- The reference's norm of every row, with its gain. -/
def normed (x : FVec Ideal S2x8192x2048 .f32) (g : FVec Ideal S2048 .f32) : FVec Ideal S2x8192x2048 .f32 :=
  mulf (mulf x (broadcastInDim S2x8192x2048 ![0, 1, 2] bcast_S2x8192x1_S2x8192x2048_0_1_2 (Host.rsqrt (addf (Host.divf
    (broadcastInDim S2x8192x1 ![0, 1] bcast_S2x8192_S2x8192x1_0_1 (Host.reduceAdd (mulf x x)
      (constant S_ .f32 0x00000000#32) reducesTo_S2x8192x2048_S2x8192_d2 h_S_))
    (broadcastInDim S2x8192x1 ![] bcast_S_S2x8192x1 (constant S_ .f32 0x45000000#32)))
    (broadcastInDim S2x8192x1 ![] bcast_S_S2x8192x1 (constant S_ .f32 0x358637BD#32))))))
    (broadcastInDim S2x8192x2048 ![0, 1, 2] bcast_S1x1x2048_S2x8192x2048_0_1_2
      (broadcastInDim S1x1x2048 ![2] bcast_S2048_S1x1x2048_2 g))

theorem normed_apply (x : FVec Ideal S2x8192x2048 .f32) (g : FVec Ideal S2048 .f32) (b : Fin 2) (s : Fin 8192) (d : Fin 2048) :
    normed x g (ix3 b s d) = rms (fun e => x (ix3 b s e)) (fun e => g (ix1 e)) d := by
  pointwise [normed, rms]

/-- The reference's pre-activations. -/
def pre (y : FVec Ideal S2x8192x2048 .f32) (w1 : FVec Ideal S2048x8192 .f32) : FVec Ideal S2x8192x8192 .f32 :=
  maximumf (Host.dotGeneral dot_S2x8192x2048_S2048x8192_S2x8192x8192_2_0_01_1_n_n none y w1)
    (broadcastInDim S2x8192x8192 ![] bcast_S_S2x8192x8192 (constant S_ .f32 0x00000000#32))

/-- The reference's residual stream after the MLP. -/
def summed (x y : FVec Ideal S2x8192x2048 .f32) (w1 : FVec Ideal S2048x8192 .f32) (w2 : FVec Ideal S8192x2048 .f32) :
    FVec Ideal S2x8192x2048 .f32 :=
  addf x (Host.dotGeneral dot_S2x8192x8192_S8192x2048_S2x8192x2048_2_0_01_1_n_n none (mulf (pre y w1) (pre y w1)) w2)

theorem summed_apply (x y : FVec Ideal S2x8192x2048 .f32) (w1 : FVec Ideal S2048x8192 .f32) (w2 : FVec Ideal S8192x2048 .f32)
    (b : Fin 2) (s : Fin 8192) (d : Fin 2048) :
    summed x y w1 w2 (ix3 b s d)
      = x (ix3 b s d) + ∑ n, unit (fun e => y (ix3 b s e)) (fun e => w1 (ix2 e n)) (w2 (ix2 n d)) := by
  pointwise [summed, pre, unit]

/-- The reference's result is these three in turn. -/
theorem result_eq (c : Dev nD) : Value.res_out0 m c = shapeCast _ (normed
    (summed (m ((c : Thread nD τ).loc main_arg0))
      (normed (m ((c : Thread nD τ).loc main_arg0)) (shapeCast _ (m ((c : Thread nD τ).loc main_arg1)) shapeCasts_S1x2048_S2048))
      (shapeCast _ (m ((c : Thread nD τ).loc main_arg2)) shapeCasts_S1x2048x8192_S2048x8192)
      (shapeCast _ (m ((c : Thread nD τ).loc main_arg3)) shapeCasts_S1x8192x2048_S8192x2048))
    (m ((c : Thread nD τ).loc main_arg4))) shapeCasts_S2x8192x2048_S16384x2048 := rfl

theorem gain_apply (g : FVec Ideal S1x2048 .f32) (e : Fin 2048) :
    shapeCast S2048 g shapeCasts_S1x2048_S2048 (ix1 e) = g (ix2 0 e) := by
  pointwise

theorem up_apply (w : FVec Ideal S1x2048x8192 .f32) (e : Fin 2048) (n : Fin 8192) :
    shapeCast S2048x8192 w shapeCasts_S1x2048x8192_S2048x8192 (ix2 e n) = w (ix3 0 e n) := by
  pointwise

theorem down_apply (w : FVec Ideal S1x8192x2048 .f32) (n : Fin 8192) (d : Fin 2048) :
    shapeCast S8192x2048 w shapeCasts_S1x8192x2048_S8192x2048 (ix2 n d) = w (ix3 0 n d) := by
  pointwise

theorem flat_apply (x : FVec Ideal S2x8192x2048 .f32) (ρ : Fin 16384) (d : Fin 2048) :
    shapeCast S16384x2048 x shapeCasts_S2x8192x2048_S16384x2048 (ix2 ρ d)
      = x (ix3 (⟨ρ.val / 8192, by omega⟩ : Fin 2) (⟨ρ.val % 8192, by omega⟩ : Fin 8192) d) := by
  pointwise

/-- The reference's result at row `ρ`, column `d`. -/
theorem result_apply (c : Dev nD) (ρ : Fin 16384) (d : Fin 2048) :
    Value.res_out0 m c (ix2 ρ d)
      = rms (fun e => row m c ρ.val ρ.isLt e + ∑ n, unit (rms (row m c ρ.val ρ.isLt) fun e => m ((c : Thread nD τ).loc main_arg1) (ix2 0 e))
          (fun e => m ((c : Thread nD τ).loc main_arg2) (ix3 0 e n)) (m ((c : Thread nD τ).loc main_arg3) (ix3 0 n e)))
          (fun e => m ((c : Thread nD τ).loc main_arg4) (ix1 e)) d := by
  rw [result_eq]
  refine (flat_apply _ ρ d).trans ((normed_apply _ _ _ _ d).trans ?_)
  congr 1
  funext e
  refine (summed_apply _ _ _ _ _ _ e).trans ?_
  unfold row
  refine congrArg₂ (· + ·) rfl (Finset.sum_congr rfl fun n _ => ?_)
  simp only [normed_apply, gain_apply, up_apply, down_apply]

end Cert.ReferenceIdeal.Mlp

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Sweep
public import proofs.«01_k».proof.Proof.Plain

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨e0, e1, e2, e3, e4⟩ := hagree c
  funext i
  obtain ⟨ρ, d, rfl⟩ : ∃ (ρ : Fin 16384) (d : Fin 2048), i = ix2 ρ d := ⟨i 0, i 1, eq_ix2 i⟩
  refine (Cert.ReferenceIdeal.Mlp.result_apply m' c ρ d).trans (Eq.trans ?_ (Cert.KernelIdeal.Mlp.result_apply m c ρ d).symm)
  unfold Cert.KernelIdeal.Mlp.hid Cert.KernelIdeal.Mlp.row Cert.KernelIdeal.Mlp.gain1 Cert.KernelIdeal.Mlp.gain2
    Cert.KernelIdeal.Mlp.up Cert.KernelIdeal.Mlp.down Cert.ReferenceIdeal.Mlp.row
  rw [e0, e1, e2, e3, e4]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
